-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000x4096 : Shape := ⟨3, ![64, 1000, 4096]⟩
abbrev S1000 : Shape := ⟨1, ![1000]⟩
abbrev S_ : Shape := ⟨0, ![]⟩
abbrev S1x1x1000 : Shape := ⟨3, ![1, 1, 1000]⟩
abbrev S64x1x4096 : Shape := ⟨3, ![64, 1, 4096]⟩
abbrev S1x1000x4096 : Shape := ⟨3, ![1, 1000, 4096]⟩
abbrev S1x1x4096 : Shape := ⟨3, ![1, 1, 4096]⟩
abbrev S1000x4096 : Shape := ⟨2, ![1000, 4096]⟩
abbrev S1x1000 : Shape := ⟨2, ![1, 1000]⟩
abbrev S1x4096 : Shape := ⟨2, ![1, 4096]⟩
abbrev S64x4096 : Shape := ⟨2, ![64, 4096]⟩

abbrev nBuf : Space → Nat
  | .hbm => 14
  | .vmem => 5
  | .smem => 0
  | _ => 0

abbrev bufTy : (tb : Table) → Fin (tcTables nBuf tb) → BufTy
  | .hbm, ⟨0, _⟩ => ⟨S64x1000x4096, .f32⟩
  | .hbm, ⟨1, _⟩ => ⟨S1000, .f32⟩
  | .hbm, ⟨2, _⟩ => ⟨S1000, .f32⟩
  | .hbm, ⟨3, _⟩ => ⟨S_, .f32⟩
  | .hbm, ⟨4, _⟩ => ⟨S1000, .f32⟩
  | .hbm, ⟨5, _⟩ => ⟨S1000, .f32⟩
  | .hbm, ⟨6, _⟩ => ⟨S1000, .f32⟩
  | .hbm, ⟨7, _⟩ => ⟨S_, .f32⟩
  | .hbm, ⟨8, _⟩ => ⟨S_, .f32⟩
  | .hbm, ⟨9, _⟩ => ⟨S1000, .f32⟩
  | .hbm, ⟨10, _⟩ => ⟨S1000, .f32⟩
  | .hbm, ⟨11, _⟩ => ⟨S1x1x1000, .f32⟩
  | .hbm, ⟨12, _⟩ => ⟨S64x1x4096, .f32⟩
  | .hbm, ⟨13, _⟩ => ⟨S64x4096, .f32⟩
  | .local _ .vmem, ⟨0, _⟩ => ⟨S1x1000x4096, .f32⟩
  | .local _ .vmem, ⟨1, _⟩ => ⟨S1x1000x4096, .f32⟩
  | .local _ .vmem, ⟨2, _⟩ => ⟨S1x1x1000, .f32⟩
  | .local _ .vmem, ⟨3, _⟩ => ⟨S1x1x4096, .f32⟩
  | .local _ .vmem, ⟨4, _⟩ => ⟨S1x1x4096, .f32⟩
  | _, _ => ⟨S64x1000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x1000x4096 : Shape := ⟨3, ![64, 1000, 4096]⟩
abbrev S1000 : Shape := ⟨1, ![1000]⟩
abbrev S_ : Shape := ⟨0, ![]⟩
abbrev S64x4096 : Shape := ⟨2, ![64, 4096]⟩

abbrev nBuf : Space → Nat
  | .hbm => 12
  | .vmem => 0
  | .smem => 0
  | _ => 0

abbrev bufTy : (tb : Table) → Fin (tcTables nBuf tb) → BufTy
  | .hbm, ⟨0, _⟩ => ⟨S64x1000x4096, .f32⟩
  | .hbm, ⟨1, _⟩ => ⟨S1000, .f32⟩
  | .hbm, ⟨2, _⟩ => ⟨S1000, .f32⟩
  | .hbm, ⟨3, _⟩ => ⟨S_, .f32⟩
  | .hbm, ⟨4, _⟩ => ⟨S1000, .f32⟩
  | .hbm, ⟨5, _⟩ => ⟨S1000, .f32⟩
  | .hbm, ⟨6, _⟩ => ⟨S1000, .f32⟩
  | .hbm, ⟨7, _⟩ => ⟨S_, .f32⟩
  | .hbm, ⟨8, _⟩ => ⟨S_, .f32⟩
  | .hbm, ⟨9, _⟩ => ⟨S1000, .f32⟩
  | .hbm, ⟨10, _⟩ => ⟨S1000, .f32⟩
  | .hbm, ⟨11, _⟩ => ⟨S64x4096, .f32⟩
  | _, _ => ⟨S64x1000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Weights.lean ====
/-
  The normalised decay weights. Both programs compute them on the host by the same operations:
  `exp(-k / 20)` for `k = 0 … 999`, divided by their sum. Here they get one name, and it is shown that the kernel's
  region finds them, reshaped to [1, 1, 1000], in its second operand.
-/
module

public import proofs.«01_k».proof.Proof.Gen.KernelIdeal.Run

@[expose] public section

noncomputable section

namespace Cert.Proof.Smooth

open Idealize.ShloMosaic Idealize.ShloMosaic.TcCoe Idealize.SL.Sem Idealize.ShloMosaic.StableHlo
open Cert.KernelIdeal Cert.KernelIdeal.Gen

variable {F : FTy → Type} [FloatOps F]

/-- The unnormalised weights `exp(-k / 20)`. -/
def decay : FVec F S1000 .f32 :=
  Host.exp (Host.divf (Host.negf (sitofp .f32 (iotaInDim S1000 32 0)))
    (broadcastInDim S1000 ![] bcast_S_S1000 (constant S_ .f32 0x41A00000#32)))

/-- The weights divided by their sum. -/
def weights : FVec F S1000 .f32 :=
  Host.divf decay (broadcastInDim S1000 ![] bcast_S_S1000
    (Host.reduceAdd decay (constant S_ .f32 0x00000000#32) reducesTo_S1000_S_d0 h_S_))

/-- The kernel's second operand, when its region is entered, is the weights reshaped to [1, 1, 1000]. -/
theorem V_weights (m : (ℓ : Loc nD τ sig) → Buf (Elt F) ℓ) (c : Dev nD) :
    V m c main_v8 = shapeCast S1x1x1000 (weights (F := F)) shapeCasts_S1000_S1x1x1000 := by
  show after (List.flatten [hostOps0]) _ _ = _
  simp only [hostOps0, List.flatten_cons, List.flatten_nil, List.append_nil, List.cons_append, List.nil_append]
  unfold weights decay
  after_results <;> rfl

end Cert.Proof.Smooth

end
-- ==== Proof.Block.lean ====
/-
  What the kernel body computes from one batch's block, and what the result's [64, 1, 4096] array holds after all
  64 grid points: at (b, 0, n) the sum over time of weight times spike train.
-/
module

public import proofs.«01_k».proof.Proof.Weights
public import Idealize.ShloMosaic.Lib.Pipeline.Value
public import Idealize.ShloMosaic.Lib.Pointwise

@[expose] public section

set_option maxRecDepth 16384

noncomputable section

namespace Cert.Proof.Smooth

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The body's payload at neuron `n`: the weighted sum over the block's 1000 times. -/
theorem pay_apply (x : Vec Ideal S1x1000x4096 .f32) (w : Vec Ideal S1x1x1000 .f32) (n : Fin 4096) :
    k0_pay1 x w (ix3 0 0 n) = ∑ k : Fin 1000, w (ix3 0 0 k) * x (ix3 0 k n) := by
  pointwise [k0_pay1]

/-- The weighted sum at batch `b`, neuron `n` of an array of spike trains. -/
def smoothed (x : Vec Ideal S64x1000x4096 .f32) (b : Fin 64) (n : Fin 4096) : EReal :=
  ∑ k : Fin 1000, weights (F := Ideal) (ix1 k) * x (ix3 b k n)

/-- The weighted sums laid out as the kernel's result. -/
def smoothedArr (c : Dev nD) : Buf (Elt Ideal) ((c : Thread nD τ).loc main_v9) :=
  fun i : S64x1x4096.Idx => smoothed (m ((c : Thread nD τ).loc main_arg0)) (i 0) (i 2)

/-- Where each window's block stands at a point: the spike trains' and the result's at batch `t`, the weights' at 0. -/
theorem index_eq (t : Fin cfg0.N) :
    (win0_0.index t 0 = t.val ∧ win0_0.index t 1 = 0 ∧ win0_0.index t 2 = 0)
    ∧ (win0_1.index t 0 = 0 ∧ win0_1.index t 1 = 0 ∧ win0_1.index t 2 = 0)
    ∧ (win0_2.index t 0 = t.val ∧ win0_2.index t 1 = 0 ∧ win0_2.index t 2 = 0) := by
  have key : ∀ t : Fin grid0.N,
      (win0_0.index t 0 = t.val ∧ win0_0.index t 1 = 0 ∧ win0_0.index t 2 = 0)
      ∧ (win0_1.index t 0 = 0 ∧ win0_1.index t 1 = 0 ∧ win0_1.index t 2 = 0)
      ∧ (win0_2.index t 0 = t.val ∧ win0_2.index t 1 = 0 ∧ win0_2.index t 2 = 0) := by decide +kernel
  exact key t

/-- A grid point as a batch. -/
def batch (t : Fin cfg0.N) : Fin 64 := ⟨t.val, by have h : cfg0.N = 64 := N_0; have := t.isLt; omega⟩

/-- The first input's block at point `t` is batch `t` of the spike trains. -/
theorem iblk_x (c : Dev nD) (t : Fin cfg0.N) (k : Fin 1000) (n : Fin 4096) :
    iblk m c 0 t (ix3 0 k n : S1x1000x4096.Idx) = m ((c : Thread nD τ).loc main_arg0) (ix3 (batch t) k n : S64x1000x4096.Idx) := by
  obtain ⟨⟨h0, h1, h2⟩, -, -⟩ := index_eq t
  unfold iblk
  rw [View.read_apply]
  refine (congrFun (V_main_arg0 m c) _).trans (congrArg _ ?_)
  funext a
  apply Fin.ext
  match a with
  | ⟨0, _⟩ => show win0_0.index t 0 * 1 + 1 * 0 = t.val; rw [h0]; omega
  | ⟨1, _⟩ => show win0_0.index t 1 * 1000 + 1 * k.val = k.val; rw [h1]; omega
  | ⟨2, _⟩ => show win0_0.index t 2 * 4096 + 1 * n.val = n.val; rw [h2]; omega

/-- The second input's block is the weights at every point. -/
theorem iblk_w (c : Dev nD) (t : Fin cfg0.N) (k : Fin 1000) :
    iblk m c 1 t (ix3 0 0 k : S1x1x1000.Idx) = weights (F := Ideal) (ix1 k) := by
  obtain ⟨-, ⟨h0, h1, h2⟩, -⟩ := index_eq t
  unfold iblk
  rw [View.read_apply]
  refine (congrFun (V_weights m c) _).trans ?_
  have e : ((win0_1.blk t).view.emb (ix3 0 0 k : S1x1x1000.Idx) : S1x1x1000.Idx) = ix3 0 0 k := by
    funext a
    apply Fin.ext
    match a with
    | ⟨0, _⟩ => show win0_1.index t 0 * 1 + 1 * 0 = 0; rw [h0]
    | ⟨1, _⟩ => show win0_1.index t 1 * 1 + 1 * 0 = 0; rw [h1]
    | ⟨2, _⟩ => show win0_1.index t 2 * 1000 + 1 * k.val = k.val; rw [h2]; omega
  refine (congrArg _ e).trans ?_
  pointwise

/-- The offsets of a whole-block access are all zero. -/
theorem zero3 : (![0, 0, 0] : Fin 3 → Nat) = fun _ => 0 := funext fun a => by fin_cases a <;> rfl

/-- What point `t` writes back is batch `t` of the weighted sums. -/
theorem flushed_eq (c : Dev nD) (t : Fin cfg0.N) :
    (dats m 0 c).flushed 2 t = (win0_2.blk t).view.read (Elt Ideal) (smoothedArr m c) := by
  obtain ⟨-, -, h0, h1, h2⟩ := index_eq t
  show (cfg0.win 2).cut (grid0.coords t) ((dats m 0 c).after 2 t) = _
  rw [after0_2]
  unfold out0_2
  rw [View.canon_unit_zero zero3, View.ld_unit_zero zero3, View.ld_unit_zero zero3]
  funext j
  obtain ⟨n, rfl⟩ : ∃ n : Fin 4096, j = (ix3 0 0 n : S1x1x4096.Idx) :=
    ⟨j 2, by
      funext a
      match a with
      | ⟨0, _⟩ => exact Subsingleton.elim (α := Fin 1) _ _
      | ⟨1, _⟩ => exact Subsingleton.elim (α := Fin 1) _ _
      | ⟨2, _⟩ => rfl⟩
  refine (pay_apply _ _ n).trans ?_
  rw [View.read_apply]
  have e : ((win0_2.blk t).view.emb (ix3 0 0 n : S1x1x4096.Idx) : S64x1x4096.Idx) = ix3 (batch t) 0 n := by
    funext a
    apply Fin.ext
    match a with
    | ⟨0, _⟩ => show win0_2.index t 0 * 1 + 1 * 0 = t.val; rw [h0]; omega
    | ⟨1, _⟩ => show win0_2.index t 1 * 1 + 1 * 0 = 0; rw [h1]
    | ⟨2, _⟩ => show win0_2.index t 2 * 4096 + 1 * n.val = n.val; rw [h2]; omega
  refine Eq.trans ?_ (congrArg (smoothedArr m c) e).symm
  show _ = ∑ k : Fin 1000, weights (F := Ideal) (ix1 k) * m ((c : Thread nD τ).loc main_arg0) (ix3 (batch t) k n : S64x1000x4096.Idx)
  refine Finset.sum_congr rfl fun k _ => ?_
  rw [iblk_w, iblk_x]

/-- Every element of the result is in the block of the point that its batch names. -/
theorem cover (i : S64x1x4096.Idx) :
    ∃ t : Fin cfg0.N, (cfg0.win 2).flush t = true ∧ i ∈ ((cfg0.win 2).blk t).view.set := by
  have hN : cfg0.N = 64 := N_0
  have i0 : (i 0 : Nat) < 64 := (i 0).isLt
  have i1 : (i 1 : Nat) < 1 := (i 1).isLt
  have i2 : (i 2 : Nat) < 4096 := (i 2).isLt
  have ht : (i 0 : Nat) < cfg0.N := by omega
  let t : Fin cfg0.N := ⟨(i 0 : Nat), ht⟩
  have htv : t.val = (i 0 : Nat) := rfl
  refine ⟨t, flush0_2 t, ?_⟩
  obtain ⟨-, -, h0, h1, h2⟩ := index_eq t
  show i ∈ ((View.whole main_v9).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1
              rw [h0, htv]; omega
  | ⟨1, _⟩ => show win0_2.index t 1 * 1 ≤ (i 1 : Nat) ∧ (i 1 : Nat) < win0_2.index t 1 * 1 + 1
              rw [h1]; omega
  | ⟨2, _⟩ => show win0_2.index t 2 * 4096 ≤ (i 2 : Nat) ∧ (i 2 : Nat) < win0_2.index t 2 * 4096 + 4096
              rw [h2]; omega

/-- So the kernel's result array ends holding the weighted sums. -/
theorem region_eq (c : Dev nD) : Cert.KernelIdeal.Value.reg_main_v9 m c = smoothedArr m c :=
  (dats m 0 c).arrAt_eq_of_cover 2 (smoothedArr m c) (fun t _ => flushed_eq m c t) cover

end Cert.Proof.Smooth

end
-- ==== Proof.Equation.lean ====
/-
  The two results are the same array: the kernel's, reshaped to [64, 4096], and the reference's contraction over time.
-/
module

public import proofs.«01_k».proof.Defs
public import proofs.«01_k».proof.Proof.Block
public import proofs.«01_k».proof.Proof.Gen.ReferenceIdeal.Run

@[expose] public section

set_option maxRecDepth 16384

noncomputable section

namespace Cert.Proof.Smooth

open Idealize.ShloMosaic Idealize.ShloMosaic.TcCoe Idealize.SL.Sem
open Cert.KernelIdeal Cert.KernelIdeal.Gen

/-- The weighted sums as a [64, 4096] array. -/
def result (x : Vec Ideal S64x1000x4096 .f32) : Vec Ideal S64x4096 .f32 := fun i => smoothed x (i 0) (i 1)

/-- Dropping the unit axis of a [64, 1, 4096] array, at an index. -/
theorem drop_unit (y : Vec Ideal S64x1x4096 .f32) (b : Fin 64) (n : Fin 4096) :
    shapeCast S64x4096 y shapeCasts_S64x1x4096_S64x4096 (ix2 b n) = y (ix3 b 0 n) := by
  pointwise

/-- The kernel's reshaped result is the weighted sums. -/
theorem kernel_eq (m : (ℓ : Loc nD τ sig) → Buf (Elt Ideal) ℓ) (c : Dev nD) :
    shapeCast S64x4096 (Cert.KernelIdeal.Value.reg_main_v9 m c) shapeCasts_S64x1x4096_S64x4096
      = result (m ((c : Thread nD τ).loc main_arg0)) := by
  funext i
  obtain ⟨b, n, rfl⟩ : ∃ (b : Fin 64) (n : Fin 4096), i = ix2 b n := ⟨i 0, i 1, eq_ix2 i⟩
  exact (drop_unit _ b n).trans (congrFun (region_eq m c) (ix3 b 0 n : S64x1x4096.Idx))

/-- The reference's contraction of the spike trains with the weights over time is the weighted sums. -/
theorem reference_eq (x : Vec Ideal S64x1000x4096 .f32) :
    Host.dotGeneral (φ₁ := .f32) (φ₂ := .f32) Cert.ReferenceIdeal.dot_S64x1000x4096_S1000_S64x4096_1_0_02_n_n_n none x (weights (F := Ideal)) = result x := by
  funext i
  idx_vars i
  pointwise [result, smoothed]
  exact Finset.sum_congr rfl fun k _ => mul_comm _ _

/-- `Cert.algebraic_KernelIdeal_ReferenceIdeal`: from memories that agree on the spike trains both programs end with
    the weighted sums in their results. -/
theorem algebraic : Cert.algebraic_KernelIdeal_ReferenceIdeal := by
  intro m ρ m' ρ' _ hagree
  refine ⟨fun c => result (m ((c : Thread nD τ).loc main_arg0)), ?_, ?_⟩
  · exact (θ_run Cert.KernelIdeal.defs _ _).mono (fun _ h c => ⟨(h c).1.trans (kernel_eq m c), (h c).2⟩)
      (Cert.KernelIdeal.Value.run (F := Ideal) m ρ)
  · refine (θ_run Cert.ReferenceIdeal.defs _ _).mono (fun _ h c => ⟨(h c).1.trans ?_, (h c).2⟩)
      (Cert.ReferenceIdeal.Value.run (F := Ideal) m' ρ')
    rw [hagree c]
    exact reference_eq _

end Cert.Proof.Smooth

end
-- ==== Proof.lean ====
/-
  The certificate: the three frames, the (empty) ledger of the idealization, and the equality of the kernel's and the
  reference's results over the extended reals.
-/
module

public import proofs.«01_k».proof.Defs
public import proofs.«01_k».proof.Proof.Gen.KernelIdeal.Run
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its argument unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  Smooth.algebraic⟩

end Cert.Proof

end
